-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_windows_of_sixty_four [hPre_windows_of_sixty_four : Cert.Pre_windows_of_sixty_four.Facts] (m : (ℓ : Loc Cert.KernelIdeal.nD Cert.KernelIdeal.τ Cert.KernelIdeal.sig) → Buf (Elt Ideal) ℓ) : Prop :=
  ∀ c : Dev Cert.KernelIdeal.nD,
    (Cert.Pre_windows_of_sixty_four.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windows_of_sixty_four [hPre_windows_of_sixty_four : Cert.Pre_windows_of_sixty_four.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windows_of_sixty_four.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_windows_of_sixty_four [hKernelIdeal : Cert.KernelIdeal.Facts] [hPre_windows_of_sixty_four : Cert.Pre_windows_of_sixty_four.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_windows_of_sixty_four m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_windows_of_sixty_four [hReferenceIdeal : Cert.ReferenceIdeal.Facts] [hPre_windows_of_sixty_four : Cert.Pre_windows_of_sixty_four.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windows_of_sixty_four m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_windows_of_sixty_four [hKernelIdeal : Cert.KernelIdeal.Facts] [hReferenceIdeal : Cert.ReferenceIdeal.Facts] [hPre_windows_of_sixty_four : Cert.Pre_windows_of_sixty_four.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_windows_of_sixty_four m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_windows_of_sixty_four : Cert.Pre_windows_of_sixty_four.Facts),
    quiescent_Kernel (hKernel := hKernel)
    ∧ quiescent_KernelIdeal (hKernelIdeal := hKernelIdeal)
    ∧ quiescent_KernelIdeal_pre_windows_of_sixty_four (hKernelIdeal := hKernelIdeal) (hPre_windows_of_sixty_four := hPre_windows_of_sixty_four)
    ∧ quiescent_ReferenceIdeal (hReferenceIdeal := hReferenceIdeal)
    ∧ quiescent_ReferenceIdeal_pre_windows_of_sixty_four (hReferenceIdeal := hReferenceIdeal) (hPre_windows_of_sixty_four := hPre_windows_of_sixty_four)
    ∧ preserves_Kernel_KernelIdeal
    ∧ algebraic_KernelIdeal_ReferenceIdeal_pre_windows_of_sixty_four (hKernelIdeal := hKernelIdeal) (hReferenceIdeal := hReferenceIdeal) (hPre_windows_of_sixty_four := hPre_windows_of_sixty_four)
-- ==== Pre_windows_of_sixty_four.lean ====
abbrev S16384x256 : Shape := ⟨2, ![16384, 256]⟩
abbrev S256 : Shape := ⟨1, ![256]⟩
abbrev S16384 : Shape := ⟨1, ![16384]⟩
abbrev S256x768 : Shape := ⟨2, ![256, 768]⟩
abbrev S256x256 : Shape := ⟨2, ![256, 256]⟩
abbrev S_ : Shape := ⟨0, ![]⟩

class Facts : Prop where
  bcast_S_S16384 : S_.BroadcastsInDim S16384 (![] : Fin 0 → Fin S16384.rank)

variable [Facts]

def fn_where {F : FTy → Type} [FloatOps F] (arg0 : IVec S16384 1) (arg1 : IVec S16384 32) (arg2 : IVec S16384 32) : IVec S16384 32 :=
  let v0 : IVec S16384 32 := select arg0 arg1 arg2
  v0

def fn_floor_divide {F : FTy → Type} [FloatOps F] (arg0 : IVec S16384 32) (arg1 : IVec S_ 32) : IVec S16384 32 :=
  let v0 : IVec S_ 32 := id arg1
  let v1 : IVec S16384 32 := broadcastInDim S16384 ![] bcast_S_S16384 v0
  let v2 : IVec S16384 32 := Host.divsi arg0 v1
  let v3 : IVec S16384 32 := signi arg0
  let v4 : IVec S_ 32 := signi v0
  let v5 : IVec S16384 32 := broadcastInDim S16384 ![] bcast_S_S16384 v4
  let v6 : IVec S16384 1 := cmpi .ne v3 v5
  let v7 : IVec S16384 32 := broadcastInDim S16384 ![] bcast_S_S16384 v0
  let v8 : IVec S16384 32 := Host.remsi arg0 v7
  let c : IVec S_ 32 := constantI S_ 32 0#32
  let v9 : IVec S16384 32 := broadcastInDim S16384 ![] bcast_S_S16384 c
  let v10 : IVec S16384 1 := cmpi .ne v8 v9
  let v11 : IVec S16384 1 := andi v6 v10
  let c_0 : IVec S_ 32 := constantI S_ 32 1#32
  let v12 : IVec S16384 32 := broadcastInDim S16384 ![] bcast_S_S16384 c_0
  let v13 : IVec S16384 32 := subi v2 v12
  let v14 : IVec S16384 32 := fn_where (F := F) v11 v13 v2
  v14

def fn {F : FTy → Type} [FloatOps F] (main_arg0 : FVec F S16384x256 .f32) (main_arg1 : IVec S256 32) (main_arg2 : IVec S256 32) (main_arg3 : IVec S16384 32) (main_arg4 : FVec F S256x768 .f32) (main_arg5 : FVec F S256x256 .f32) (main_arg6 : FVec F S256 .f32) : IVec S16384 1 :=
  let main_v0 : IVec S16384 32 := iotaInDim S16384 32 0
  let main_c : IVec S_ 32 := constantI S_ 32 64#32
  let main_v1 : IVec S16384 32 := fn_floor_divide (F := F) main_v0 main_c
  let main_v2 : IVec S16384 1 := cmpi .eq main_arg3 main_v1
  main_v2
-- ==== Kernel.lean ====
abbrev S16384x256 : Shape := ⟨2, ![16384, 256]⟩
abbrev S256 : Shape := ⟨1, ![256]⟩
abbrev S16384 : Shape := ⟨1, ![16384]⟩
abbrev S256x768 : Shape := ⟨2, ![256, 768]⟩
abbrev S256x256 : Shape := ⟨2, ![256, 256]⟩
abbrev S1x256 : Shape := ⟨2, ![1, 256]⟩
abbrev S8x8 : Shape := ⟨2, ![8, 8]⟩
abbrev S_ : Shape := ⟨0, ![]⟩
abbrev S8x32x8 : Shape := ⟨3, ![8, 32, 8]⟩
abbrev S256x8 : Shape := ⟨2, ![256, 8]⟩
abbrev S256x8x32 : Shape := ⟨3, ![256, 8, 32]⟩
abbrev S4096x256 : Shape := ⟨2, ![4096, 256]⟩
abbrev S4096x768 : Shape := ⟨2, ![4096, 768]⟩
abbrev S64x64x256 : Shape := ⟨3, ![64, 64, 256]⟩
abbrev S64x256 : Shape := ⟨2, ![64, 256]⟩
abbrev S64x1x256 : Shape := ⟨3, ![64, 1, 256]⟩
abbrev S4096x32 : Shape := ⟨2, ![4096, 32]⟩
abbrev S64x64x32 : Shape := ⟨3, ![64, 64, 32]⟩
abbrev S64x64x64 : Shape := ⟨3, ![64, 64, 64]⟩

abbrev nBuf : Space → Nat
  | .hbm => 21
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S256, .i32⟩
  | .hbm, ⟨2, _⟩ => ⟨S256, .i32⟩
  | .hbm, ⟨3, _⟩ => ⟨S16384, .i32⟩
  | .hbm, ⟨4, _⟩ => ⟨S256x768, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x32x8, .f32⟩
  | .hbm, ⟨16, _⟩ => ⟨S256x8, .f32⟩
  | .hbm, ⟨17, _⟩ => ⟨S256x8x32, .f32⟩
  | .hbm, ⟨18, _⟩ => ⟨S256x256, .f32⟩
  | .hbm, ⟨19, _⟩ => ⟨S256x256, .bf16⟩
  | .hbm, ⟨20, _⟩ => ⟨S16384x256, .f32⟩
  | .local _ .vmem, ⟨0, _⟩ => ⟨S4096x256, .f32⟩
  | .local _ .vmem, ⟨1, _⟩ => ⟨S4096x256, .f32⟩
  | .local _ .vmem, ⟨2, _⟩ => ⟨S256x768, .f32⟩
  | .local _ .vmem, ⟨3, _⟩ => ⟨S256x256, .f32⟩
  | .local _ .vmem, ⟨4, _⟩ => ⟨S1x256, .f32⟩
  | .local _ .vmem, ⟨5, _⟩ => ⟨S256x256, .bf16⟩
  | .local _ .vmem, ⟨6, _⟩ => ⟨S4096x256, .f32⟩
  | .local _ .vmem, ⟨7, _⟩ => ⟨S4096x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x256 : Shape := ⟨2, ![16384, 256]⟩
abbrev S256 : Shape := ⟨1, ![256]⟩
abbrev S16384 : Shape := ⟨1, ![16384]⟩
abbrev S256x768 : Shape := ⟨2, ![256, 768]⟩
abbrev S256x256 : Shape := ⟨2, ![256, 256]⟩
abbrev S16384x768 : Shape := ⟨2, ![16384, 768]⟩
abbrev S16384x3x256 : Shape := ⟨3, ![16384, 3, 256]⟩
abbrev S16384x1x256 : Shape := ⟨3, ![16384, 1, 256]⟩
abbrev S16384x8x32 : Shape := ⟨3, ![16384, 8, 32]⟩
abbrev S_ : Shape := ⟨0, ![]⟩
abbrev S16384x8x32x1 : Shape := ⟨4, ![16384, 8, 32, 1]⟩
abbrev S16384x8x1x32 : Shape := ⟨4, ![16384, 8, 1, 32]⟩
abbrev S16384x8x32x32 : Shape := ⟨4, ![16384, 8, 32, 32]⟩
abbrev S256x8x32x32 : Shape := ⟨4, ![256, 8, 32, 32]⟩
abbrev S16384x1 : Shape := ⟨2, ![16384, 1]⟩
abbrev S256x8x32 : Shape := ⟨3, ![256, 8, 32]⟩
abbrev S16384x8 : Shape := ⟨2, ![16384, 8]⟩
abbrev S16384x8x1 : Shape := ⟨3, ![16384, 8, 1]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .i32⟩
  | .hbm, ⟨2, _⟩ => ⟨S256, .i32⟩
  | .hbm, ⟨3, _⟩ => ⟨S16384, .i32⟩
  | .hbm, ⟨4, _⟩ => ⟨S256x768, .f32⟩
  | .hbm, ⟨5, _⟩ => ⟨S256x256, .f32⟩
  | .hbm, ⟨6, _⟩ => ⟨S256, .f32⟩
  | .hbm, ⟨7, _⟩ => ⟨S16384x768, .f32⟩
  | .hbm, ⟨8, _⟩ => ⟨S16384x3x256, .f32⟩
  | .hbm, ⟨9, _⟩ => ⟨S16384x1x256, .f32⟩
  | .hbm, ⟨10, _⟩ => ⟨S16384x256, .f32⟩
  | .hbm, ⟨11, _⟩ => ⟨S16384x1x256, .f32⟩
  | .hbm, ⟨12, _⟩ => ⟨S16384x256, .f32⟩
  | .hbm, ⟨13, _⟩ => ⟨S16384x1x256, .f32⟩
  | .hbm, ⟨14, _⟩ => ⟨S16384x256, .f32⟩
  | .hbm, ⟨15, _⟩ => ⟨S16384x8x32, .f32⟩
  | .hbm, ⟨16, _⟩ => ⟨S16384x8x32, .f32⟩
  | .hbm, ⟨17, _⟩ => ⟨S16384x8x32, .f32⟩
  | .hbm, ⟨18, _⟩ => ⟨S_, .f32⟩
  | .hbm, ⟨19, _⟩ => ⟨S16384x8x32, .f32⟩
  | .hbm, ⟨20, _⟩ => ⟨S16384x8x32, .f32⟩
  | .hbm, ⟨21, _⟩ => ⟨S_, .f32⟩
  | .hbm, ⟨22, _⟩ => ⟨S16384x8x32, .f32⟩
  | .hbm, ⟨23, _⟩ => ⟨S16384x8x32, .f32⟩
  | .hbm, ⟨24, _⟩ => ⟨S16384x8x32x1, .f32⟩
  | .hbm, ⟨25, _⟩ => ⟨S16384x8x1x32, .f32⟩
  | .hbm, ⟨26, _⟩ => ⟨S16384x8x32x32, .f32⟩
  | .hbm, ⟨27, _⟩ => ⟨S16384x8x32x32, .f32⟩
  | .hbm, ⟨28, _⟩ => ⟨S16384x8x32x32, .f32⟩
  | .hbm, ⟨29, _⟩ => ⟨S_, .f32⟩
  | .hbm, ⟨30, _⟩ => ⟨S256x8x32x32, .f32⟩
  | .hbm, ⟨31, _⟩ => ⟨S16384x1, .i32⟩
  | .hbm, ⟨32, _⟩ => ⟨S256x8x32x32, .f32⟩
  | .hbm, ⟨33, _⟩ => ⟨S_, .f32⟩
  | .hbm, ⟨34, _⟩ => ⟨S256x8x32, .f32⟩
  | .hbm, ⟨35, _⟩ => ⟨S16384x1, .i32⟩
  | .hbm, ⟨36, _⟩ => ⟨S256x8x32, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S16384x8x32x32, .f32⟩
  | .hbm, ⟨46, _⟩ => ⟨S16384x8x32, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S16384x8x32, .f32⟩
  | .hbm, ⟨56, _⟩ => ⟨S16384x8x32, .f32⟩
  | .hbm, ⟨57, _⟩ => ⟨S_, .f32⟩
  | .hbm, ⟨58, _⟩ => ⟨S16384x8, .f32⟩
  | .hbm, ⟨59, _⟩ => ⟨S16384x8x1, .f32⟩
  | .hbm, ⟨60, _⟩ => ⟨S_, .f32⟩
  | .hbm, ⟨61, _⟩ => ⟨S16384x8x1, .f32⟩
  | .hbm, ⟨62, _⟩ => ⟨S16384x8x1, .f32⟩
  | .hbm, ⟨63, _⟩ => ⟨S16384x8x32, .f32⟩
  | .hbm, ⟨64, _⟩ => ⟨S16384x8x32, .f32⟩
  | .hbm, ⟨65, _⟩ => ⟨S16384x256, .f32⟩
  | .hbm, ⟨66, _⟩ => ⟨S16384x256, .f32⟩
  | .hbm, ⟨67, _⟩ => ⟨S1x256, .f32⟩
  | .hbm, ⟨68, _⟩ => ⟨S16384x256, .f32⟩
  | .hbm, ⟨69, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Window.Algebra.lean ====
/-
  The arithmetic of one window, on the extended reals.

  A window is 64 tokens; a token has 8 heads of 32 channels. `Z j c` is column `c` of token `j`'s query/key/value
  row: columns 0–255 are the queries before the rectifier, 256–511 the keys, 512–767 the values. Two ways to compute
  one output channel of one token are defined here, `byScores` (divide every query first, weigh the values by the
  scores) and `byStates` (sum keys times values first, divide last), and `byScores_eq_byStates` says that they are the
  same extended real whatever `Z` holds, infinities included.
-/
module

public import Idealize.ShloMosaic.PureOps.Ideal
public import Mathlib.Data.EReal.Inv
public import Mathlib.Algebra.BigOperators.Fin

@[expose] public section

noncomputable section

namespace Cert.Window

open Idealize.ShloMosaic

/-! ## Sums that a factor may enter -/

/-- Any factor on the right enters a sum of nonnegative terms. -/
theorem sum_mul_of_nonneg {κ : Type} (s : Finset κ) (f : κ → EReal) (hf : ∀ c, 0 ≤ f c) (v : EReal) :
    (∑ c ∈ s, f c) * v = ∑ c ∈ s, f c * v := by
  classical
  induction s using Finset.induction_on with
  | empty => simp
  | insert a s ha ih =>
    rw [Finset.sum_insert ha, Finset.sum_insert ha,
      EReal.right_distrib_of_nonneg (hf a) (Finset.sum_nonneg fun c _ => hf c), ih]

/-- A nonnegative finite factor on the left enters any sum. -/
theorem mul_sum_of_finite {κ : Type} (s : Finset κ) (f : κ → EReal) {r : EReal} (hr : 0 ≤ r) (hr' : r ≠ ⊤) :
    r * (∑ c ∈ s, f c) = ∑ c ∈ s, r * f c := by
  classical
  induction s using Finset.induction_on with
  | empty => simp
  | insert a s ha ih =>
    rw [Finset.sum_insert ha, Finset.sum_insert ha, EReal.left_distrib_of_nonneg_of_ne_top hr hr', ih]

/-! ## Dividing first or last -/

/-- Off zero the quotient is the product with the inverse. -/
theorem div_of_ne {x y : EReal} (h : y ≠ 0) : Ideal.div x y = x * y⁻¹ := by
  unfold Ideal.div
  rw [if_neg h]

/-- One channel: a query `q` over a divisor whose inverse is the nonnegative finite `i`, times the keys' and values'
    products summed. Where the query is infinite the keys are all zero. -/
theorem channel {ι : Type} [Fintype ι] {q i : EReal} (hq : 0 ≤ q) (hi : 0 ≤ i) (hi' : i ≠ ⊤) (k v : ι → EReal)
    (hk : ∀ j, 0 ≤ k j) (hfin : q * ∑ j, k j ≠ ⊤) :
    ∑ j, q * i * k j * v j = q * (∑ j, k j * v j) * i := by
  by_cases htop : q = ⊤
  · have hs : ∑ j, k j = 0 := by
      by_contra hne
      refine hfin ?_
      rw [htop]
      exact EReal.top_mul_of_pos (lt_of_le_of_ne (Finset.sum_nonneg fun j _ => hk j) (Ne.symm hne))
    have hz : ∀ j, k j = 0 := fun j =>
      (Finset.sum_eq_zero_iff_of_nonneg fun j _ => hk j).1 hs j (Finset.mem_univ j)
    simp [hz]
  · have hr : 0 ≤ q * i := mul_nonneg hq hi
    have hr' : q * i ≠ ⊤ := by
      rw [EReal.mul_ne_top]
      refine ⟨Or.inl ?_, Or.inl ?_, Or.inl htop, Or.inr hi'⟩
      · intro h; rw [h] at hq; exact absurd hq (by simp)
      · exact hq
    calc ∑ j, q * i * k j * v j = ∑ j, q * i * (k j * v j) := by simp only [mul_assoc]
      _ = q * i * ∑ j, k j * v j := (mul_sum_of_finite _ _ hr hr').symm
      _ = q * (∑ j, k j * v j) * i := by rw [mul_assoc, mul_comm i, ← mul_assoc]

/-- Queries divided first, then scored against the keys, the scores weighing the values: the same as queries against
    the summed products of keys and values, divided last. Queries and keys are nonnegative, and the divisor `d` is
    positive and at least the sum of the queries against the summed keys. -/
theorem divide_first {ι κ : Type} [Fintype ι] [Fintype κ] (q : κ → EReal) (k : ι → κ → EReal) (v : ι → EReal)
    (hq : ∀ c, 0 ≤ q c) (hk : ∀ j c, 0 ≤ k j c) {d : EReal} (hd : 0 < d) (hle : ∑ c, q c * ∑ j, k j c ≤ d) :
    ∑ j, (∑ c, Ideal.div (q c) d * k j c) * v j = Ideal.div (∑ c, q c * ∑ j, k j c * v j) d := by
  simp only [div_of_ne hd.ne']
  by_cases htop : d = ⊤
  · simp [htop]
  have hi : 0 ≤ d⁻¹ := EReal.inv_nonneg_of_nonneg hd.le
  have hi' : d⁻¹ ≠ ⊤ := by
    intro h
    have h2 : d = ((d.toReal : ℝ) : EReal) := (EReal.coe_toReal htop (by intro h; rw [h] at hd; simp at hd)).symm
    rw [h2, ← EReal.coe_inv] at h
    exact EReal.coe_ne_top _ h
  have hfin : ∀ c, q c * ∑ j, k j c ≠ ⊤ := fun c h => htop (top_le_iff.1 (h ▸ le_trans
    (Finset.single_le_sum (f := fun c => q c * ∑ j, k j c)
      (fun c _ => mul_nonneg (hq c) (Finset.sum_nonneg fun j _ => hk j c)) (Finset.mem_univ c)) hle))
  calc ∑ j, (∑ c, q c * d⁻¹ * k j c) * v j
      = ∑ j, ∑ c, q c * d⁻¹ * k j c * v j := Finset.sum_congr rfl fun j _ =>
        sum_mul_of_nonneg _ _ (fun c => mul_nonneg (mul_nonneg (hq c) hi) (hk j c)) _
    _ = ∑ c, ∑ j, q c * d⁻¹ * k j c * v j := Finset.sum_comm
    _ = ∑ c, d⁻¹ * (q c * ∑ j, k j c * v j) := Finset.sum_congr rfl fun c _ => by
        rw [channel (hq c) hi hi' (fun j => k j c) v (fun j => hk j c) (hfin c), mul_comm]
    _ = (∑ c, q c * ∑ j, k j c * v j) * d⁻¹ := by rw [← mul_sum_of_finite _ _ hi hi', mul_comm]

/-! ## A window's two programs -/

/-- Channel `c` of the head that channel `f` belongs to. -/
def chan (f : Fin 256) (c : Fin 32) : Fin 256 := ⟨f.val / 32 * 32 + c.val, by omega⟩

/-- Token `j`'s query at channel `g`. -/
def query (Z : Fin 64 → Fin 768 → EReal) (j : Fin 64) (g : Fin 256) : EReal := max (Z j ⟨g.val, by omega⟩) 0
/-- Token `j`'s key at channel `g`. -/
def key (Z : Fin 64 → Fin 768 → EReal) (j : Fin 64) (g : Fin 256) : EReal := max (Z j ⟨256 + g.val, by omega⟩) 0
/-- Token `j`'s value at channel `g`. -/
def value (Z : Fin 64 → Fin 768 → EReal) (j : Fin 64) (g : Fin 256) : EReal := Z j ⟨512 + g.val, by omega⟩

/-- The constant both programs add to the normalizer. -/
def eps : EReal := Ideal.ofBits .f32 0x3A83126F#32

/-- Output channel `f` of token `p`, as the kernel computes it: the normalizer by a product with the 0/1 matrix `H`
    over all channels, every query divided by it, scores of the token against the window's keys, values weighed. -/
def byScores (H : Fin 256 → Fin 256 → EReal) (Z : Fin 64 → Fin 768 → EReal) (p : Fin 64) (f : Fin 256) : EReal :=
  ∑ j, (∑ c : Fin 32, Ideal.div (query Z p (chan f c))
    ((∑ g, query Z p g * (∑ i, key Z i g) * H g (chan f c)) + eps) * key Z j (chan f c)) * value Z j f

/-- Output channel `f` of token `p`, as the reference computes it: the window's sums of keys times values, the query
    against them, over the query against the window's summed keys. -/
def byStates (Z : Fin 64 → Fin 768 → EReal) (p : Fin 64) (f : Fin 256) : EReal :=
  Ideal.div (∑ c : Fin 32, query Z p (chan f c) * ∑ j, key Z j (chan f c) * value Z j f)
    ((∑ c : Fin 32, (∑ j, key Z j (chan f c)) * query Z p (chan f c)) + eps)

/-- The 0/1 matrix that is one where two channels share a head. -/
def sameHead (g f : Fin 256) : EReal := if g.val / 32 = f.val / 32 then 1 else 0

theorem query_nonneg (Z : Fin 64 → Fin 768 → EReal) (j : Fin 64) (g : Fin 256) : 0 ≤ query Z j g := le_max_right _ _
theorem key_nonneg (Z : Fin 64 → Fin 768 → EReal) (j : Fin 64) (g : Fin 256) : 0 ≤ key Z j g := le_max_right _ _

/-- The two channels' heads agree: a channel of `f`'s head has `f`'s head. -/
theorem chan_div (f : Fin 256) (c : Fin 32) : (chan f c).val / 32 = f.val / 32 := by
  show (f.val / 32 * 32 + c.val) / 32 = f.val / 32
  omega

/-- A sum over all channels against the 0/1 matrix is the sum over the head's own channels. -/
theorem sum_sameHead (F : Fin 256 → EReal) (f : Fin 256) : ∑ g, F g * sameHead g f = ∑ c, F (chan f c) := by
  have h : ∀ g, F g * sameHead g f = if g.val / 32 = f.val / 32 then F g else 0 := fun g => by
    unfold sameHead
    split <;> simp
  simp only [h]
  rw [← Finset.sum_filter]
  refine (Finset.sum_bij (fun c _ => chan f c) (fun c _ => ?_) (fun a _ b _ e => ?_) (fun g hg => ?_) fun c _ => rfl).symm
  · exact Finset.mem_filter.2 ⟨Finset.mem_univ _, chan_div f c⟩
  · have e' : f.val / 32 * 32 + a.val = f.val / 32 * 32 + b.val := congrArg Fin.val e
    exact Fin.ext (by omega)
  · have hg' := (Finset.mem_filter.1 hg).2
    exact ⟨⟨g.val % 32, by omega⟩, Finset.mem_univ _, Fin.ext (by
      show f.val / 32 * 32 + g.val % 32 = g.val
      omega)⟩

/-- The added constant is positive. -/
theorem eps_pos : 0 < eps := by
  unfold eps
  have h : Ideal.ofBits .f32 0x3A83126F#32 = ((8589935 * (1 / 8589934592) : ℝ) : EReal) := by
    simp [Ideal.ofBits, Ideal.ieee]
    norm_num
  rw [h]
  exact EReal.coe_pos.2 (by norm_num)

/-- The kernel's value of an output channel is the reference's, whatever the window holds. -/
theorem byScores_eq_byStates (Z : Fin 64 → Fin 768 → EReal) (p : Fin 64) (f : Fin 256) :
    byScores sameHead Z p f = byStates Z p f := by
  unfold byScores byStates
  have hz : ∀ c, ∑ g, query Z p g * (∑ i, key Z i g) * sameHead g (chan f c)
      = ∑ c : Fin 32, query Z p (chan f c) * ∑ j, key Z j (chan f c) := fun c => by
    rw [sum_sameHead fun g => query Z p g * ∑ i, key Z i g]
    refine Finset.sum_congr rfl fun c' _ => ?_
    have : chan (chan f c) c' = chan f c' := Fin.ext (by
      show (chan f c).val / 32 * 32 + c'.val = f.val / 32 * 32 + c'.val
      rw [chan_div])
    rw [this]
  have h0 : 0 ≤ ∑ c : Fin 32, query Z p (chan f c) * ∑ j, key Z j (chan f c) :=
    Finset.sum_nonneg fun c _ => mul_nonneg (query_nonneg Z p _) (Finset.sum_nonneg fun j _ => key_nonneg Z j _)
  simp only [hz]
  rw [divide_first (fun c => query Z p (chan f c)) (fun j c => key Z j (chan f c)) (fun j => value Z j f)
    (fun c => query_nonneg Z p _) (fun j c => key_nonneg Z j _)
    (lt_of_lt_of_le eps_pos (le_add_of_nonneg_left h0)) (le_add_of_nonneg_right eps_pos.le)]
  simp only [mul_comm (query Z p _) (∑ j, key Z j _)]

end Cert.Window

end
-- ==== Proof.Window.Rows.lean ====
/-
  What both programs compute, written once over the argument arrays: the query/key/value rows of a token's window and
  the projected output, for an array of any number of tokens that is a multiple of 64 (the whole array, or one block).
-/
module

public import proofs.«01_k».proof.Proof.Window.Algebra
public import Idealize.ShloMosaic.Lib.Pointwise

@[expose] public section

noncomputable section

namespace Cert.Window

open Idealize.ShloMosaic

/-- Token `j` of the window that token `t` is in. -/
def mate {n : Nat} (hn : 64 ∣ n) (t : Fin n) (j : Fin 64) : Fin n := ⟨t.val / 64 * 64 + j.val, by omega⟩

/-- Where token `t` is in its window. -/
def place {n : Nat} (t : Fin n) : Fin 64 := ⟨t.val % 64, by omega⟩

/-- A token is the one at its own place in its own window. -/
theorem mate_place {n : Nat} (hn : 64 ∣ n) (t : Fin n) : mate hn t (place t) = t :=
  Fin.ext (by show t.val / 64 * 64 + t.val % 64 = t.val; omega)

/-- The query/key/value rows of the window that token `t` is in: column `c` of token `j`'s row of `X · W`. -/
def rows {n : Nat} (hn : 64 ∣ n) (X : FVec Ideal ⟨2, ![n, 256]⟩ .f32) (W : FVec Ideal ⟨2, ![256, 768]⟩ .f32) (t : Fin n)
    (j : Fin 64) (c : Fin 768) : EReal :=
  ∑ k : Fin 256, X (ix2 (mate hn t j) k) * W (ix2 k c)

/-- The output: the window attention of every token by the reference's arrangement, projected, plus the bias. -/
def result (X : FVec Ideal ⟨2, ![16384, 256]⟩ .f32) (W : FVec Ideal ⟨2, ![256, 768]⟩ .f32)
    (P : FVec Ideal ⟨2, ![256, 256]⟩ .f32) (b : FVec Ideal ⟨1, ![256]⟩ .f32) (t : Fin 16384) (n : Fin 256) : EReal :=
  (∑ f : Fin 256, byStates (rows (by decide) X W t) (place t) f * P (ix2 f n)) + b (ix1 n)

end Cert.Window

end
-- ==== Proof.Window.Block.lean ====
/-
  What one block computes: the kernel's payload over 4096 tokens (64 whole windows), read at a token and a channel.
-/
module

public import proofs.«01_k».proof.Proof.Gen.KernelIdeal.Skeleton
public import proofs.«01_k».proof.Proof.Window.Rows

@[expose] public section

noncomputable section

namespace Cert.Window

open Idealize.ShloMosaic Idealize.ShloMosaic.TcCoe
open Cert.KernelIdeal Cert.KernelIdeal.Gen
open Facts

/-! ## One head -/

/-- Scores of the queries `q` against the keys `k` of each window, weighing the values `v`: 32 channels from `o` on. -/
def headCore (Q K V : FVec Ideal S64x64x32 .f32) : FVec Ideal S4096x32 .f32 :=
  shapeCast S4096x32
    (matmul dot_S64x64x64_S64x64x32_S64x64x32_2_1_1_2_0_0 none
      (matmul dot_S64x64x32_S64x64x32_S64x64x64_2_2_1_1_0_0 none Q K (constant S64x64x64 .f32 0x00000000#32)) V
      (constant S64x64x32 .f32 0x00000000#32))
    shapeCasts_S64x64x32_S4096x32

/-- The 32 channels from `o` on, by window. -/
def headCut (o : Nat) (ho : S4096x256.Slices ![0, o] S4096x32) (v : FVec Ideal S4096x256 .f32) : FVec Ideal S64x64x32 .f32 :=
  shapeCast S64x64x32 (extractStridedSlice S4096x32 ![0, o] v ho) shapeCasts_S4096x32_S64x64x32

/-- One output channel from the divided queries `qn`, the keys and the values of a block. -/
def attend (qn k v : FVec Ideal S4096x256 .f32) (r : Fin 4096) (f : Fin 256) : EReal :=
  ∑ j, (∑ c, qn (ix2 r (chan f c)) * k (ix2 (mate (by decide) r j) (chan f c))) * v (ix2 (mate (by decide) r j) f)

/-- A head's payload at a token and a channel of the head. -/
theorem head_at (qn k v : FVec Ideal S4096x256 .f32) (o : Nat) (ho : S4096x256.Slices ![0, o] S4096x32) (r : Fin 4096) (f : Fin 256)
    (e : Fin 32) (hof : o = f.val / 32 * 32) (he : o + e.val = f.val) :
    headCore (headCut o ho qn) (headCut o ho k) (headCut o ho v) (ix2 r e) = attend qn k v r f := by
  pointwise [headCore, headCut]
  have hr : (⟨r.val / 64 * 64 + r.val % 64, by omega⟩ : Fin 4096) = r := Fin.ext (by show r.val / 64 * 64 + r.val % 64 = r.val; omega)
  have hc : ∀ (c : Fin 32) (h : o + c.val < 256), (⟨o + c.val, h⟩ : Fin 256) = chan f c := fun c h => Fin.ext (by
    show o + c.val = f.val / 32 * 32 + c.val
    rw [hof])
  have hf : chan f e = f := Fin.ext (by show f.val / 32 * 32 + e.val = f.val; omega)
  simp only [hr, hc, hf]
  rfl

/-! ## The block -/

/-- The divided queries of a block. -/
theorem queries_at (x : Vec Ideal S4096x256 .f32) (w : Vec Ideal S256x768 .f32) (H : Vec Ideal S256x256 .bf16) (r : Fin 4096) (f : Fin 256) :
    k0_pay5 x w H (ix2 r f)
      = Ideal.div (query (rows (by decide) x w r) (place r) f)
          ((∑ g, query (rows (by decide) x w r) (place r) g * (∑ i, key (rows (by decide) x w r) i g) * H (ix2 g f)) + eps) := by
  pointwise [k0_pay5, k0_pay3, k0_pay2]
  unfold query rows
  rw [mate_place]
  rfl

theorem keys_at (x : Vec Ideal S4096x256 .f32) (w : Vec Ideal S256x768 .f32) (r : Fin 4096) (j : Fin 64) (f : Fin 256) :
    k0_pay3 x w (ix2 (mate (by decide) r j) f) = key (rows (by decide) x w r) j f := by
  pointwise [k0_pay3, k0_pay2]
  rfl

theorem values_at (x : Vec Ideal S4096x256 .f32) (w : Vec Ideal S256x768 .f32) (r : Fin 4096) (j : Fin 64) (f : Fin 256) :
    k0_pay4 x w (ix2 (mate (by decide) r j) f) = value (rows (by decide) x w r) j f := by
  pointwise [k0_pay4, k0_pay2]
  rfl

/-- Attention over a block's own arrays is the window's, by scores. -/
theorem attend_eq (x : Vec Ideal S4096x256 .f32) (w : Vec Ideal S256x768 .f32) (H : Vec Ideal S256x256 .bf16) (r : Fin 4096) (f : Fin 256) :
    attend (k0_pay5 x w H) (k0_pay3 x w) (k0_pay4 x w) r f
      = byScores (fun g f => H (ix2 g f)) (rows (by decide) x w r) (place r) f := by
  unfold attend byScores
  simp only [queries_at, keys_at, values_at]

/-- The payload of a block: the eight heads side by side, projected, plus the bias. -/
def block (qn k v : FVec Ideal S4096x256 .f32) (p : Vec Ideal S256x256 .f32) (b : Vec Ideal S1x256 .f32) : FVec Ideal S4096x256 .f32 :=
  k0_pay1
    (headCore (headCut 0 slices_S4096x256_o0_0_S4096x32 qn) (headCut 0 slices_S4096x256_o0_0_S4096x32 k) (headCut 0 slices_S4096x256_o0_0_S4096x32 v))
    (headCore (headCut 32 slices_S4096x256_o0_32_S4096x32 qn) (headCut 32 slices_S4096x256_o0_32_S4096x32 k) (headCut 32 slices_S4096x256_o0_32_S4096x32 v))
    (headCore (headCut 64 slices_S4096x256_o0_64_S4096x32 qn) (headCut 64 slices_S4096x256_o0_64_S4096x32 k) (headCut 64 slices_S4096x256_o0_64_S4096x32 v))
    (headCore (headCut 96 slices_S4096x256_o0_96_S4096x32 qn) (headCut 96 slices_S4096x256_o0_96_S4096x32 k) (headCut 96 slices_S4096x256_o0_96_S4096x32 v))
    (headCore (headCut 128 slices_S4096x256_o0_128_S4096x32 qn) (headCut 128 slices_S4096x256_o0_128_S4096x32 k) (headCut 128 slices_S4096x256_o0_128_S4096x32 v))
    (headCore (headCut 160 slices_S4096x256_o0_160_S4096x32 qn) (headCut 160 slices_S4096x256_o0_160_S4096x32 k) (headCut 160 slices_S4096x256_o0_160_S4096x32 v))
    (headCore (headCut 192 slices_S4096x256_o0_192_S4096x32 qn) (headCut 192 slices_S4096x256_o0_192_S4096x32 k) (headCut 192 slices_S4096x256_o0_192_S4096x32 v))
    (headCut 224 slices_S4096x256_o0_224_S4096x32 qn) (headCut 224 slices_S4096x256_o0_224_S4096x32 k) (headCut 224 slices_S4096x256_o0_224_S4096x32 v)
    p b

/-- What the body stores is `block` of its divided queries, keys and values: each head's payload is the one head's, cut
    elsewhere. -/
theorem payload_eq (x : Vec Ideal S4096x256 .f32) (w : Vec Ideal S256x768 .f32) (H : Vec Ideal S256x256 .bf16) (p : Vec Ideal S256x256 .f32)
    (b : Vec Ideal S1x256 .f32) :
    k0_pay1 (k0_pay6 x w H) (k0_pay7 x w H) (k0_pay9 (k0_pay3 x w) (k0_pay4 x w) (k0_pay8 x w H))
        (k0_pay10 (k0_pay3 x w) (k0_pay4 x w) (k0_pay5 x w H)) (k0_pay11 (k0_pay3 x w) (k0_pay4 x w) (k0_pay5 x w H))
        (k0_pay12 (k0_pay3 x w) (k0_pay4 x w) (k0_pay5 x w H)) (k0_pay13 (k0_pay3 x w) (k0_pay4 x w) (k0_pay5 x w H))
        (k0_pay14 (k0_pay5 x w H)) (k0_pay15 (k0_pay3 x w)) (k0_pay16 (k0_pay4 x w)) p b
      = block (k0_pay5 x w H) (k0_pay3 x w) (k0_pay4 x w) p b := by
  unfold block k0_pay6 k0_pay7 k0_pay8 k0_pay9 k0_pay10 k0_pay11 k0_pay12 k0_pay13 k0_pay14 k0_pay15 k0_pay16 headCore headCut
  rfl

/-- Eight arrays side by side, 32 channels each: entry `(r, f)` is the array `f / 32`'s entry `(r, f % 32)`; so if
    the one that covers channel `f` holds `y` there, the whole does. -/
theorem side_by_side (a0 a1 a2 a3 a4 a5 a6 a7 : FVec Ideal S4096x32 .f32) (r : Fin 4096) (f : Fin 256) (y : EReal)
    (h0 : ∀ e : Fin 32, f.val / 32 = 0 → 0 + e.val = f.val → a0 (ix2 r e) = y)
    (h1 : ∀ e : Fin 32, f.val / 32 = 1 → 32 + e.val = f.val → a1 (ix2 r e) = y)
    (h2 : ∀ e : Fin 32, f.val / 32 = 2 → 64 + e.val = f.val → a2 (ix2 r e) = y)
    (h3 : ∀ e : Fin 32, f.val / 32 = 3 → 96 + e.val = f.val → a3 (ix2 r e) = y)
    (h4 : ∀ e : Fin 32, f.val / 32 = 4 → 128 + e.val = f.val → a4 (ix2 r e) = y)
    (h5 : ∀ e : Fin 32, f.val / 32 = 5 → 160 + e.val = f.val → a5 (ix2 r e) = y)
    (h6 : ∀ e : Fin 32, f.val / 32 = 6 → 192 + e.val = f.val → a6 (ix2 r e) = y)
    (h7 : ∀ e : Fin 32, f.val / 32 = 7 → 224 + e.val = f.val → a7 (ix2 r e) = y) :
    (concatenate S4096x256 1 [⟨S4096x32, a0⟩, ⟨S4096x32, a1⟩, ⟨S4096x32, a2⟩, ⟨S4096x32, a3⟩, ⟨S4096x32, a4⟩, ⟨S4096x32, a5⟩,
        ⟨S4096x32, a6⟩, ⟨S4096x32, a7⟩]
      concatenates_S4096x32_S4096x32_S4096x32_S4096x32_S4096x32_S4096x32_S4096x32_S4096x32_S4096x256_d1 : FVec Ideal S4096x256 .f32)
      (ix2 r f) = y := by
  pointwise
  split
  · exact h0 _ (by omega) (by show 0 + f.val = f.val; omega)
  split
  · exact h1 _ (by omega) (by show 32 + (f.val - 32) = f.val; omega)
  split
  · exact h2 _ (by omega) (by show 64 + (f.val - 32 - 32) = f.val; omega)
  split
  · exact h3 _ (by omega) (by show 96 + (f.val - 32 - 32 - 32) = f.val; omega)
  split
  · exact h4 _ (by omega) (by show 128 + (f.val - 32 - 32 - 32 - 32) = f.val; omega)
  split
  · exact h5 _ (by omega) (by show 160 + (f.val - 32 - 32 - 32 - 32 - 32) = f.val; omega)
  split
  · exact h6 _ (by omega) (by show 192 + (f.val - 32 - 32 - 32 - 32 - 32 - 32) = f.val; omega)
  · exact h7 _ (by omega) (by show 224 + (f.val - 32 - 32 - 32 - 32 - 32 - 32 - 32) = f.val; omega)

/-- A block's payload at a token and a channel. -/
theorem block_at (qn k v : FVec Ideal S4096x256 .f32) (p : Vec Ideal S256x256 .f32) (b : Vec Ideal S1x256 .f32) (r : Fin 4096) (n : Fin 256) :
    block qn k v p b (ix2 r n) = (∑ f, attend qn k v r f * p (ix2 f n)) + b (ix2 0 n) := by
  have hh : ∀ (o : Nat) (ho : S4096x256.Slices ![0, o] S4096x32) (f : Fin 256) (e : Fin 32), o = f.val / 32 * 32 → o + e.val = f.val →
      headCore (headCut o ho qn) (headCut o ho k) (headCut o ho v) (ix2 r e) = attend qn k v r f :=
    fun o ho f e h1 h2 => head_at qn k v o ho r f e h1 h2
  have hs := fun f => side_by_side _ _ _ _ _ _ _ _ r f (attend qn k v r f)
    (fun e h h' => hh 0 slices_S4096x256_o0_0_S4096x32 f e (by rw [h]) h')
    (fun e h h' => hh 32 slices_S4096x256_o0_32_S4096x32 f e (by rw [h]) h')
    (fun e h h' => hh 64 slices_S4096x256_o0_64_S4096x32 f e (by rw [h]) h')
    (fun e h h' => hh 96 slices_S4096x256_o0_96_S4096x32 f e (by rw [h]) h')
    (fun e h h' => hh 128 slices_S4096x256_o0_128_S4096x32 f e (by rw [h]) h')
    (fun e h h' => hh 160 slices_S4096x256_o0_160_S4096x32 f e (by rw [h]) h')
    (fun e h h' => hh 192 slices_S4096x256_o0_192_S4096x32 f e (by rw [h]) h')
    (fun e h h' => hh 224 slices_S4096x256_o0_224_S4096x32 f e (by rw [h]) h')
  unfold block k0_pay1
  generalize hY : concatenate S4096x256 1 _ _ = Y
  have hY' : ∀ f, Y (ix2 r f) = attend qn k v r f := fun f => by
    rw [← hY]
    exact hs f
  pointwise [hY']

end Cert.Window

end
-- ==== Proof.Window.Array.lean ====
/-
  What the output array holds after the run: every token's window attention, projected.
-/
module

public import proofs.«01_k».proof.Proof.Gen.KernelIdeal.Value
public import proofs.«01_k».proof.Proof.Window.Block
public import proofs.«01_k».proof.Proof.Window.Algebra
public import Idealize.ShloMosaic.Lib.Pipeline.ValueKit

@[expose] public section

set_option maxRecDepth 16384

noncomputable section

namespace Cert.Window

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Which block each window stages at a grid point: the tokens' and the output's move with it, the others are whole. -/
theorem staged : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The mask the host builds is one where two channels share a head, zero elsewhere. -/
theorem mask_at (c : Dev nD) (g f : Fin 256) : (V m c main_v11 : FVec Ideal S256x256 .bf16) (ix2 g f) = sameHead g f := by
  entry_read
  pointwise
  rw [WordCmp.cmpi_eq_eq]
  have ha : IntOp.addi (BitVec.ofNat 32 (g.val / 32)) 0#32 = BitVec.ofNat 32 (g.val / 32) := BitVec.add_zero _
  have he : (BitVec.ofNat 32 (g.val / 32) = BitVec.ofNat 32 (f.val / 32)) ↔ g.val / 32 = f.val / 32 := by
    rw [← BitVec.toNat_inj, BitVec.toNat_ofNat, BitVec.toNat_ofNat, Nat.mod_eq_of_lt (by omega), Nat.mod_eq_of_lt (by omega)]
  rw [ha, decide_eq_decide.2 he]
  unfold sameHead
  by_cases h : g.val / 32 = f.val / 32
  · rw [if_pos h, decide_eq_true h]
    exact (by norm_num : (((1 : ℕ) : ℝ) : EReal) = 1)
  · rw [if_neg h, decide_eq_false h]
    exact (by norm_num : (((0 : ℕ) : ℝ) : EReal) = 0)

/-- The bias the host passes is the bias argument, as one row. -/
theorem bias_at (c : Dev nD) (n : Fin 256) :
    (V m c main_v0 : FVec Ideal S1x256 .f32) (ix2 0 n) = (m ((c.tc : Thread nD τ).loc main_arg6) : FVec Ideal S256 .f32) (ix1 n) := by
  entry_read
  pointwise

/-- What the output array ends holding, as one function of the arguments. -/
def G (c : Dev nD) : FVec Ideal S16384x256 .f32 := fun i =>
  result (m ((c.tc : Thread nD τ).loc main_arg0)) (m ((c.tc : Thread nD τ).loc main_arg4)) (m ((c.tc : Thread nD τ).loc main_arg5))
    (m ((c.tc : Thread nD τ).loc main_arg6)) (i 0) (i 1)

/-- The row of the whole array that row `r` of point `t`'s block is. -/
def row (t : Fin cfg0.N) (r : Fin 4096) : Fin 16384 := ⟨t.val * 4096 + r.val, by
  have h : t.val < 4 := t.isLt
  omega⟩

/-- A block's rows are the array's: windows do not straddle blocks, since 64 divides 4096. -/
theorem tokens_at (c : Dev nD) (t : Fin cfg0.N) (r : Fin 4096) (k : Fin 256) :
    (iblk m c 0 t : FVec Ideal S4096x256 .f32) (ix2 r k) = (m ((c.tc : Thread nD τ).loc main_arg0) : FVec Ideal S16384x256 .f32) (ix2 (row t r) k) := by
  blk_point [iblk, V, staged t]
  rfl

theorem weights_eq (c : Dev nD) (t : Fin cfg0.N) :
    (iblk m c 1 t : FVec Ideal S256x768 .f32) = m ((c.tc : Thread nD τ).loc main_arg4) := by
  blk_ext! [iblk, V, staged t]

theorem proj_eq (c : Dev nD) (t : Fin cfg0.N) :
    (iblk m c 2 t : FVec Ideal S256x256 .f32) = m ((c.tc : Thread nD τ).loc main_arg5) := by
  blk_ext! [iblk, V, staged t]

theorem biasBlock_eq (c : Dev nD) (t : Fin cfg0.N) : (iblk m c 3 t : FVec Ideal S1x256 .f32) = V m c main_v0 := by
  blk_ext! [iblk, staged t]

theorem maskBlock_eq (c : Dev nD) (t : Fin cfg0.N) : (iblk m c 4 t : FVec Ideal S256x256 .bf16) = V m c main_v11 := by
  blk_ext! [iblk, staged t]

theorem out_row (t : Fin cfg0.N) (r : Fin 4096) (n : Fin 256) : ((cfg0.win 5).blk t).view.emb (ix2 r n) = ix2 (row t r) n := by
  blk_point [staged t]
  rfl

/-- So the projected rows of a token's window, and its place in it, are the same read in the block and in the array. -/
theorem rows_row (x : FVec Ideal S4096x256 .f32) (X : FVec Ideal S16384x256 .f32) (W : FVec Ideal S256x768 .f32) (t : Fin cfg0.N)
    (h : ∀ r k, x (ix2 r k) = X (ix2 (row t r) k)) (r : Fin 4096) :
    rows (by decide) x W r = rows (by decide) X W (row t r) ∧ place r = place (row t r) := by
  have ht : t.val < 4 := t.isLt
  constructor
  · funext j c
    have hm : row t (mate (by decide) r j) = mate (by decide) (row t r) j := Fin.ext (by
      show t.val * 4096 + (r.val / 64 * 64 + j.val) = (t.val * 4096 + r.val) / 64 * 64 + j.val
      omega)
    exact Finset.sum_congr rfl fun k _ => by rw [h, hm]
  · exact Fin.ext (by
      show r.val % 64 = (t.val * 4096 + r.val) % 64
      omega)

/-- A block's payload, from what its inputs hold: the rows of the result that the block covers. -/
theorem block_result (x : FVec Ideal S4096x256 .f32) (X : FVec Ideal S16384x256 .f32) (W : FVec Ideal S256x768 .f32)
    (H : FVec Ideal S256x256 .bf16) (P : FVec Ideal S256x256 .f32) (b : FVec Ideal S1x256 .f32) (B : FVec Ideal S256 .f32) (t : Fin cfg0.N)
    (hx : ∀ r k, x (ix2 r k) = X (ix2 (row t r) k)) (hH : ∀ g f, H (ix2 g f) = sameHead g f) (hb : ∀ n, b (ix2 0 n) = B (ix1 n))
    (r : Fin 4096) (n : Fin 256) :
    block (k0_pay5 x W H) (k0_pay3 x W) (k0_pay4 x W) P b (ix2 r n) = result X W P B (row t r) n := by
  obtain ⟨hr, hp⟩ := rows_row x X W t hx r
  rw [block_at, hb]
  simp only [attend_eq, hH, hr, hp]
  unfold result
  exact congrArg (· + B (ix1 n)) (Finset.sum_congr rfl fun f _ => congrArg (· * P (ix2 f n)) (byScores_eq_byStates _ _ _))

/-- What grid point `t` writes is its block of `G`. -/
theorem point (c : Dev nD) (t : Fin cfg0.N) (r : Fin 4096) (n : Fin 256) :
    block (k0_pay5 (iblk m c 0 t) (iblk m c 1 t) (iblk m c 4 t)) (k0_pay3 (iblk m c 0 t) (iblk m c 1 t))
        (k0_pay4 (iblk m c 0 t) (iblk m c 1 t)) (iblk m c 2 t) (iblk m c 3 t) (ix2 r n)
      = G m c (((cfg0.win 5).blk t).view.emb (ix2 r n)) := by
  rw [out_row, weights_eq, proj_eq, biasBlock_eq, maskBlock_eq]
  exact block_result _ _ _ _ _ _ _ t (tokens_at m c t) (mask_at m c) (bias_at m c) r n

/-- The output array after the whole grid. -/
theorem final (c : Dev nD) : (dats m 0 c).arrAt 5 cfg0.N = G m c := by
  refine (dats m 0 c).arrAt_eq_of_covers 5 _ (by decide +kernel) fun t _ y => ?_
  blk_simp
  rw [after0_5]
  unfold_out out0_5
  frame_out
  rw [payload_eq]
  obtain ⟨r, n, rfl⟩ : ∃ (r : Fin 4096) (n : Fin 256), y = ix2 r n := ⟨y 0, y 1, eq_ix2 y⟩
  exact point m c t r n

end Cert.Window

end
-- ==== Proof.Window.Layout.lean ====
/-
  The precondition read at a token: the window number of token `t` is `t / 64`.
-/
module

public import proofs.«01_k».proof.Pre_windows_of_sixty_four
public import Idealize.ShloMosaic.Lib.Pointwise
public import Idealize.ShloMosaic.Lib.WordCmp

@[expose] public section

noncomputable section

namespace Cert.Window

open Idealize.ShloMosaic
open Cert.Pre_windows_of_sixty_four

/-- The precondition's own side condition. -/
theorem layoutFacts : Cert.Pre_windows_of_sixty_four.Facts := ⟨by decide⟩

/-- The floor division by 64 as the precondition spells it, on one word. -/
def floor64 (x : BitVec 32) : BitVec 32 :=
  Scalar.select
    (IntOp.andi
      (IntOp.cmpi .ne (if x = 0 then (0 : BitVec 32) else if x.msb = true then -1 else 1)
        (if 64#32 = (0 : BitVec 32) then (0 : BitVec 32) else if (64#32).msb = true then -1 else 1))
      (IntOp.cmpi .ne (IntOp.remsi .host x 64#32) 0#32))
    (IntOp.subi (IntOp.divsi .host x 64#32) 1#32) (IntOp.divsi .host x 64#32)

/-- On the numbers below 16384 it is the quotient: one check per number. -/
theorem floor64_eq : ∀ a b : Fin 128, floor64 (BitVec.ofNat 32 (a.val * 128 + b.val)) = BitVec.ofNat 32 ((a.val * 128 + b.val) / 64) := by
  decide +kernel

/-- Where the precondition holds, token `t` is in window `t / 64`. -/
theorem layout [Cert.Pre_windows_of_sixty_four.Facts] (x : FVec Ideal S16384x256 .f32) (i1 i2 : IVec S256 32) (i : IVec S16384 32)
    (w : FVec Ideal S256x768 .f32) (p : FVec Ideal S256x256 .f32) (b : FVec Ideal S256 .f32)
    (h : fn (F := Ideal) x i1 i2 i w p b = fun _ => 1#1) (t : Fin 16384) : i (ix1 t) = BitVec.ofNat 32 (t.val / 64) := by
  have ht := congrFun h (ix1 t)
  pointwise [fn, fn_floor_divide, fn_where] at ht
  have e : t.val / 128 * 128 + t.val % 128 = t.val := by omega
  have hf := floor64_eq ⟨t.val / 128, by omega⟩ ⟨t.val % 128, by omega⟩
  simp only [e] at hf
  rw [← hf]
  change IntOp.cmpi .eq (i (ix1 t)) (floor64 (BitVec.ofNat 32 t.val)) = 1#1 at ht
  rw [WordCmp.cmpi_eq_eq, WordCmp.ofBool_decide_eq_one_iff] at ht
  exact ht

end Cert.Window

end
-- ==== Proof.Window.Routing.lean ====
/-
  The reference's segment sums and the rows it reads back, when token `t` is in window `t / 64`: the sum that token `t`
  reads is the sum over the 64 tokens of its own window.
-/
module

public import proofs.«01_k».proof.Proof.Gen.ReferenceIdeal
public import proofs.«01_k».proof.Proof.Window.Rows
public import Idealize.ShloMosaic.Lib.Routing.OpsPair

@[expose] public section

noncomputable section

namespace Cert.Window

open Idealize.ShloMosaic
open Cert.ReferenceIdeal Cert.ReferenceIdeal.Gen
open Facts

/-- The window of a token. -/
def win (t : Fin 16384) : Fin 256 := ⟨t.val / 64, by omega⟩

/-- The window numbers as they are handed in. -/
abbrev Laid (i : IVec S16384 32) : Prop := ∀ t : Fin 16384, i (ix1 t) = BitVec.ofNat 32 (t.val / 64)

/-- The window numbers as the column of indices a segment sum takes. -/
def column (i : IVec S16384 32) : IVec S16384x1 32 := broadcastInDim S16384x1 ![0] bcast_S16384_S16384x1_0 i

/-- The same column for reading back: a negative number would count from the end. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 256#32))) i)

theorem column_at (i : IVec S16384 32) (hi : Laid i) (t : Fin 16384) : column i (ix2 t 0) = BitVec.ofNat 32 (t.val / 64) := by
  pointwise [column]
  exact hi t

theorem wrapped_at (i : IVec S16384 32) (hi : Laid i) (t : Fin 16384) : wrapped i (ix2 t 0) = BitVec.ofNat 32 (t.val / 64) := by
  pointwise [wrapped]
  rw [hi t, Routing.wrap_of_lt]
  simp only [BitVec.toNat_ofNat]
  omega

/-- A window number read as a signed integer is itself. -/
theorem number (t : Fin 16384) : (BitVec.ofNat 32 (t.val / 64)).toInt = (t.val / 64 : Nat) :=
  StableHlo.Predicate.toInt_ofNat_small _ (by omega)

/-- The segment sum's index of token `t`, as a signed integer. -/
theorem column_int (i : IVec S16384 32) (hi : Laid i) (t : Fin 16384) : (column i (ix2 t 0)).toInt = ((win t).val : Int) := by
  rw [column_at i hi, number]
  rfl

/-- The index that token `t` reads back, kept within the windows. -/
theorem wrapped_nat (i : IVec S16384 32) (hi : Laid i) (t : Fin 16384) : min (wrapped i (ix2 t 0)).toInt.toNat 255 = (win t).val := by
  rw [wrapped_at i hi, number]
  show min (t.val / 64) 255 = t.val / 64
  omega

/-- A segment sum read back. Where update `k` lands at `L k`, result element `j` reads `L j`, and the updates that land
    where `j` reads are the 64 distinct `e i`: the element is the operand's plus the sum of those updates. -/
theorem read_back {s si u : Shape} (d : ScatterDims s si u) (g : GatherDims s si u) (x : FVec Ideal s .f32)
    (idx idx' : IVec si 32) (v : FVec Ideal u .f32) (L : u.Idx → s.Idx)
    (hd : ∀ k a, d.start k idx a + (d.window k a : Int) = ((L k a).val : Int)) (j : u.Idx)
    (hg : g.operandIdx j idx' = L j) (e : Fin 64 → u.Idx) (he : Function.Injective e)
    (hL : ∀ k, L k = L j ↔ ∃ i, e i = k) :
    Host.gather g (Host.scatterAdd d x idx v) idx' j = x (L j) + ∑ i, v (e i) := by
  classical
  unfold Host.gather
  rw [hg]
  show x (L j) + ∑ k ∈ Finset.univ.filter (fun k => d.resultIdx? k idx = some (L j)), v k = _
  refine congrArg (x (L j) + ·) ?_
  rw [← Finset.sum_image (s := Finset.univ) (g := e) (f := v) fun a _ b _ hab => he hab]
  refine Finset.sum_congr (Finset.ext fun k => ?_) fun _ _ => rfl
  have hk : d.resultIdx? k idx = some (L j) ↔ L k = L j := by
    rw [Routing.resultIdx?_eq_some]
    constructor
    · intro q
      exact funext fun a => Fin.ext (Int.ofNat.inj ((hd k a).symm.trans (q a)))
    · intro q a
      rw [hd k a, q]
  simp only [Finset.mem_filter, Finset.mem_univ, true_and, Finset.mem_image, hk, hL]

/-- Two tokens are in one window exactly when one is a mate of the other. -/
theorem same_window (t t' : Fin 16384) : t'.val / 64 = t.val / 64 ↔ ∃ i, mate (by decide) t i = t' := by
  constructor
  · intro q
    exact ⟨place t', Fin.ext (by show t.val / 64 * 64 + t'.val % 64 = t'.val; omega)⟩
  · rintro ⟨i, rfl⟩
    show (t.val / 64 * 64 + i.val) / 64 = t.val / 64
    omega

theorem win_eq (t t' : Fin 16384) : win t' = win t ↔ ∃ i, mate (by decide) t i = t' :=
  Fin.ext_iff.trans (same_window t t')

theorem mate_inj (t : Fin 16384) (i i' : Fin 64) (h : mate (by decide) t i = mate (by decide) t i') : i = i' := by
  have := congrArg Fin.val h
  change t.val / 64 * 64 + i.val = t.val / 64 * 64 + i'.val at this
  exact Fin.ext (by omega)

/-! ## The sums of keys times values -/

abbrev scat4 := scatter_S256x8x32x32_S16384x1_S16384x8x32x32_123_0_0_1
abbrev gath4 := gather_S256x8x32x32_S16384x1_S16384x8x32x32_123_0_n_n_0_1_183232

/-- The place of an entry of token `k 0`: its window, its own head and channels. -/
def land4 (k : S16384x8x32x32.Idx) : S256x8x32x32.Idx := ix4 (win (k 0)) (k 1 : Fin 8) (k 2 : Fin 32) (k 3 : Fin 32)

theorem scat4_lands (i : IVec S16384 32) (hi : Laid i) (k : S16384x8x32x32.Idx) (x : Fin 4) :
    scat4.start k (column i) x + (scat4.window k x : Int) = ((land4 k x).val : Int) := by
  have e0 : scat4.start k (column i) (0 : Fin 4) = ((win (k 0)).val : Int) := by
    unfold ScatterDims.start
    rw [dif_pos (by decide)]
    refine Eq.trans (congrArg (fun y => (column i y).toInt) (funext fun b => ?_)) (column_int i hi (k 0))
    fin_cases b <;> rfl
  match x with
  | ⟨0, _⟩ => exact (add_zero _).trans e0
  | ⟨1, _⟩ => exact zero_add _
  | ⟨2, _⟩ => exact zero_add _
  | ⟨3, _⟩ => exact zero_add _

theorem gath4_reads (i : IVec S16384 32) (hi : Laid i) (k : S16384x8x32x32.Idx) : gath4.operandIdx k (wrapped i) = land4 k := by
  have e0 : gath4.start k (wrapped i) (0 : Fin 4) = (win (k 0)).val := by
    unfold GatherDims.start
    rw [dif_pos (by decide)]
    refine Eq.trans (congrArg (fun y => min (wrapped i y).toInt.toNat 255) (funext fun b => ?_)) (wrapped_nat i hi (k 0))
    fin_cases b <;> rfl
  funext x
  refine Fin.ext ?_
  match x with
  | ⟨0, _⟩ => exact e0
  | ⟨1, _⟩ => exact zero_add _
  | ⟨2, _⟩ => exact zero_add _
  | ⟨3, _⟩ => exact zero_add _

/-- What token `t` reads back of a segment sum of `v` (one entry per head and pair of channels): the sum of `v` over its window. -/
theorem states_at (i : IVec S16384 32) (hi : Laid i) (v : FVec Ideal S16384x8x32x32 .f32) (t : Fin 16384) (h : Fin 8) (a b : Fin 32) :
    Host.gather gath4 (Host.scatterAdd scat4 (broadcastInDim S256x8x32x32 ![] bcast_S_S256x8x32x32 (constant S_ .f32 0x00000000#32))
      (column i) v) (wrapped i) (ix4 t h a b) = ∑ j, v (ix4 (mate (by decide) t j) h a b) := by
  refine (read_back scat4 gath4 _ _ _ v land4 (scat4_lands i hi) _ (gath4_reads i hi _)
    (fun j => ix4 (mate (by decide) t j) h a b) (fun j j' e => mate_inj t j j' (congrFun e (0 : Fin 4))) fun k => ?_).trans ?_
  · idx_vars k
    constructor
    · intro q
      obtain ⟨j, hj⟩ := (win_eq t k0).1 (congrFun q (0 : Fin 4))
      refine ⟨j, ?_⟩
      rw [hj, show k1 = h from congrFun q (1 : Fin 4), show k2 = a from congrFun q (2 : Fin 4), show k3 = b from congrFun q (3 : Fin 4)]
    · rintro ⟨j, q⟩
      have h0 : win k0 = win t := (win_eq t k0).2 ⟨j, congrFun q (0 : Fin 4)⟩
      rw [show k1 = h from (congrFun q (1 : Fin 4)).symm, show k2 = a from (congrFun q (2 : Fin 4)).symm, show k3 = b from (congrFun q (3 : Fin 4)).symm]
      exact congrArg (fun w => ix4 w h a b) h0
  · show Ideal.ofBits .f32 0x00000000#32 + _ = _
    rw [Ideal.ofBits_zero_f32, zero_add]

/-! ## The sums of keys -/

abbrev scat3 := scatter_S256x8x32_S16384x1_S16384x8x32_12_0_0_1
abbrev gath3 := gather_S256x8x32_S16384x1_S16384x8x32_12_0_n_n_0_1_1832

/-- The place of an entry of token `k 0`: its window, its own head and channels. -/
def land3 (k : S16384x8x32.Idx) : S256x8x32.Idx := ix3 (win (k 0)) (k 1 : Fin 8) (k 2 : Fin 32)

theorem scat3_lands (i : IVec S16384 32) (hi : Laid i) (k : S16384x8x32.Idx) (x : Fin 3) :
    scat3.start k (column i) x + (scat3.window k x : Int) = ((land3 k x).val : Int) := by
  have e0 : scat3.start k (column i) (0 : Fin 3) = ((win (k 0)).val : Int) := by
    unfold ScatterDims.start
    rw [dif_pos (by decide)]
    refine Eq.trans (congrArg (fun y => (column i y).toInt) (funext fun b => ?_)) (column_int i hi (k 0))
    fin_cases b <;> rfl
  match x with
  | ⟨0, _⟩ => exact (add_zero _).trans e0
  | ⟨1, _⟩ => exact zero_add _
  | ⟨2, _⟩ => exact zero_add _

theorem gath3_reads (i : IVec S16384 32) (hi : Laid i) (k : S16384x8x32.Idx) : gath3.operandIdx k (wrapped i) = land3 k := by
  have e0 : gath3.start k (wrapped i) (0 : Fin 3) = (win (k 0)).val := by
    unfold GatherDims.start
    rw [dif_pos (by decide)]
    refine Eq.trans (congrArg (fun y => min (wrapped i y).toInt.toNat 255) (funext fun b => ?_)) (wrapped_nat i hi (k 0))
    fin_cases b <;> rfl
  funext x
  refine Fin.ext ?_
  match x with
  | ⟨0, _⟩ => exact e0
  | ⟨1, _⟩ => exact zero_add _
  | ⟨2, _⟩ => exact zero_add _

/-- What token `t` reads back of a segment sum of `v` (one entry per head and channel): the sum of `v` over its window. -/
theorem sums_at (i : IVec S16384 32) (hi : Laid i) (v : FVec Ideal S16384x8x32 .f32) (t : Fin 16384) (h : Fin 8) (a : Fin 32) :
    Host.gather gath3 (Host.scatterAdd scat3 (broadcastInDim S256x8x32 ![] bcast_S_S256x8x32 (constant S_ .f32 0x00000000#32))
      (column i) v) (wrapped i) (ix3 t h a) = ∑ j, v (ix3 (mate (by decide) t j) h a) := by
  refine (read_back scat3 gath3 _ _ _ v land3 (scat3_lands i hi) _ (gath3_reads i hi _)
    (fun j => ix3 (mate (by decide) t j) h a) (fun j j' e => mate_inj t j j' (congrFun e (0 : Fin 3))) fun k => ?_).trans ?_
  · idx_vars k
    constructor
    · intro q
      obtain ⟨j, hj⟩ := (win_eq t k0).1 (congrFun q (0 : Fin 3))
      refine ⟨j, ?_⟩
      rw [hj, show k1 = h from congrFun q (1 : Fin 3), show k2 = a from congrFun q (2 : Fin 3)]
    · rintro ⟨j, q⟩
      have h0 : win k0 = win t := (win_eq t k0).2 ⟨j, congrFun q (0 : Fin 3)⟩
      rw [show k1 = h from (congrFun q (1 : Fin 3)).symm, show k2 = a from (congrFun q (2 : Fin 3)).symm]
      exact congrArg (fun w => ix3 w h a) h0
  · show Ideal.ofBits .f32 0x00000000#32 + _ = _
    rw [Ideal.ofBits_zero_f32, zero_add]

end Cert.Window

end
-- ==== Proof.Window.Reference.lean ====
/-
  What the reference computes: its result at token `t` and channel `n` is `result`, when token `t` is in window
  `t / 64`.
-/
module

public import proofs.«01_k».proof.Proof.Gen.ReferenceIdeal.Run
public import proofs.«01_k».proof.Proof.Window.Routing

@[expose] public section

noncomputable section

namespace Cert.Window

open Idealize.ShloMosaic Idealize.ShloMosaic.TcCoe
open Cert.ReferenceIdeal Cert.ReferenceIdeal.Gen
open Facts

/-! ## The reference's intermediate arrays -/

/-- The query/key/value rows, split in three. -/
def refRows (X : FVec Ideal S16384x256 .f32) (W : FVec Ideal S256x768 .f32) : FVec Ideal S16384x3x256 .f32 :=
  shapeCast S16384x3x256 (Host.dotGeneral dot_S16384x256_S256x768_S16384x768_1_0_0_1_n_n none X W) shapeCasts_S16384x768_S16384x3x256

/-- The rectifier, per head. -/
def refRelu (x : FVec Ideal S16384x8x32 .f32) : FVec Ideal S16384x8x32 .f32 :=
  maximumf x (broadcastInDim S16384x8x32 ![] bcast_S_S16384x8x32 (constant S_ .f32 0x00000000#32))

/-- Queries, by head. -/
def refQ (X : FVec Ideal S16384x256 .f32) (W : FVec Ideal S256x768 .f32) : FVec Ideal S16384x8x32 .f32 :=
  refRelu (shapeCast _ (shapeCast _ (extractStridedSlice S16384x1x256 ![0, 0, 0] (refRows X W) slices_S16384x3x256_S16384x1x256_0_0_0)
    shapeCasts_S16384x1x256_S16384x256) shapeCasts_S16384x256_S16384x8x32)

/-- Keys, by head. -/
def refK (X : FVec Ideal S16384x256 .f32) (W : FVec Ideal S256x768 .f32) : FVec Ideal S16384x8x32 .f32 :=
  refRelu (shapeCast _ (shapeCast _ (extractStridedSlice S16384x1x256 ![0, 1, 0] (refRows X W) slices_S16384x3x256_S16384x1x256_0_1_0)
    shapeCasts_S16384x1x256_S16384x256) shapeCasts_S16384x256_S16384x8x32)

/-- Values, by head. -/
def refV (X : FVec Ideal S16384x256 .f32) (W : FVec Ideal S256x768 .f32) : FVec Ideal S16384x8x32 .f32 :=
  shapeCast _ (shapeCast _ (extractStridedSlice S16384x1x256 ![0, 2, 0] (refRows X W) slices_S16384x3x256_S16384x1x256_0_2_0)
    shapeCasts_S16384x1x256_S16384x256) shapeCasts_S16384x256_S16384x8x32

/-- Every token's keys times values. -/
def refKV (k v : FVec Ideal S16384x8x32 .f32) : FVec Ideal S16384x8x32x32 .f32 :=
  mulf
    (broadcastInDim S16384x8x32x32 ![0, 1, 2, 3] bcast_S16384x8x32x1_S16384x8x32x32_0_1_2_3
      (broadcastInDim S16384x8x32x1 ![0, 1, 2] bcast_S16384x8x32_S16384x8x32x1_0_1_2 k))
    (broadcastInDim S16384x8x32x32 ![0, 1, 2, 3] bcast_S16384x8x1x32_S16384x8x32x32_0_1_2_3
      (broadcastInDim S16384x8x1x32 ![0, 1, 3] bcast_S16384x8x32_S16384x8x1x32_0_1_3 v))

/-- The window sums of `v` read back by token, rank 4. -/
def refStates (i : IVec S16384 32) (v : FVec Ideal S16384x8x32x32 .f32) : FVec Ideal S16384x8x32x32 .f32 :=
  Host.gather gath4 (Host.scatterAdd scat4 (broadcastInDim S256x8x32x32 ![] bcast_S_S256x8x32x32 (constant S_ .f32 0x00000000#32))
    (column i) v) (wrapped i)

/-- The window sums of `v` read back by token, rank 3. -/
def refSums (i : IVec S16384 32) (v : FVec Ideal S16384x8x32 .f32) : FVec Ideal S16384x8x32 .f32 :=
  Host.gather gath3 (Host.scatterAdd scat3 (broadcastInDim S256x8x32 ![] bcast_S_S256x8x32 (constant S_ .f32 0x00000000#32))
    (column i) v) (wrapped i)

/-- The division and the projection. -/
def refOut (q : FVec Ideal S16384x8x32 .f32) (kv : FVec Ideal S16384x8x32x32 .f32) (s : FVec Ideal S16384x8x32 .f32)
    (P : FVec Ideal S256x256 .f32) (b : FVec Ideal S256 .f32) : FVec Ideal S16384x256 .f32 :=
  addf
    (Host.dotGeneral dot_S16384x256_S256x256_S16384x256_1_0_0_1_n_n none
      (shapeCast _
        (Host.divf (Host.dotGeneral dot_S16384x8x32_S16384x8x32x32_S16384x8x32_2_2_n_3_01_01 none q kv)
          (broadcastInDim S16384x8x32 ![0, 1, 2] bcast_S16384x8x1_S16384x8x32_0_1_2
            (addf
              (broadcastInDim S16384x8x1 ![0, 1] bcast_S16384x8_S16384x8x1_0_1
                (Host.reduceAdd (mulf s q) (constant S_ .f32 0x00000000#32) reducesTo_S16384x8x32_S16384x8_d2 h_S_))
              (broadcastInDim S16384x8x1 ![] bcast_S_S16384x8x1 (constant S_ .f32 0x3A83126F#32)))))
        shapeCasts_S16384x8x32_S16384x256)
      P)
    (broadcastInDim S16384x256 ![0, 1] bcast_S1x256_S16384x256_0_1 (broadcastInDim S1x256 ![1] bcast_S256_S1x256_1 b))

/-- The whole reference over its arguments. -/
def REF (X : FVec Ideal S16384x256 .f32) (i : IVec S16384 32) (W : FVec Ideal S256x768 .f32) (P : FVec Ideal S256x256 .f32)
    (b : FVec Ideal S256 .f32) : FVec Ideal S16384x256 .f32 :=
  refOut (refQ X W) (refStates i (refKV (refK X W) (refV X W))) (refSums i (refK X W)) P b

/-- The reference's run ends with `REF` of its arguments. -/
theorem res_eq (m : (ℓ : Loc nD τ sig) → Buf (Elt Ideal) ℓ) (c : Dev nD) :
    Cert.ReferenceIdeal.Value.res_out0 m c
      = REF (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) := rfl

/-! ## Read at an index -/

/-- Channel `a` of the head of `f`, as the reference numbers it, is `chan f a`. -/
theorem refQ_at (X : FVec Ideal S16384x256 .f32) (W : FVec Ideal S256x768 .f32) (t : Fin 16384) (j : Fin 64) (f : Fin 256) (a : Fin 32) :
    refQ X W (ix3 (mate (by decide) t j) ⟨f.val / 32, by omega⟩ a) = query (rows (by decide) X W t) j (chan f a) := by
  pointwise [refQ, refRelu, refRows]
  rfl

theorem refK_at (X : FVec Ideal S16384x256 .f32) (W : FVec Ideal S256x768 .f32) (t : Fin 16384) (j : Fin 64) (f : Fin 256) (a : Fin 32) :
    refK X W (ix3 (mate (by decide) t j) ⟨f.val / 32, by omega⟩ a) = key (rows (by decide) X W t) j (chan f a) := by
  pointwise [refK, refRelu, refRows]
  rfl

theorem refV_at (X : FVec Ideal S16384x256 .f32) (W : FVec Ideal S256x768 .f32) (t : Fin 16384) (j : Fin 64) (f : Fin 256) :
    refV X W (ix3 (mate (by decide) t j) ⟨f.val / 32, by omega⟩ ⟨f.val % 32, by omega⟩) = value (rows (by decide) X W t) j f := by
  pointwise [refV, refRows]
  unfold value rows
  rfl

/-- The reference's result, when token `t` is in window `t / 64`. -/
theorem REF_at (X : FVec Ideal S16384x256 .f32) (i : IVec S16384 32) (hi : Laid i) (W : FVec Ideal S256x768 .f32)
    (P : FVec Ideal S256x256 .f32) (b : FVec Ideal S256 .f32) (t : Fin 16384) (n : Fin 256) :
    REF X i W P b (ix2 t n) = result X W P b t n := by
  have hs : ∀ f a, refSums i (refK X W) (ix3 t ⟨f.val / 32, by omega⟩ a) = ∑ j, key (rows (by decide) X W t) j (chan f a) := fun f a =>
    (sums_at i hi _ t _ a).trans (Finset.sum_congr rfl fun j _ => refK_at X W t j f a)
  have hkv : ∀ (f : Fin 256) (a : Fin 32), refStates i (refKV (refK X W) (refV X W)) (ix4 t ⟨f.val / 32, by omega⟩ a ⟨f.val % 32, by omega⟩)
      = ∑ j, key (rows (by decide) X W t) j (chan f a) * value (rows (by decide) X W t) j f := fun f a => by
    refine (states_at i hi _ t _ a _).trans (Finset.sum_congr rfl fun j _ => ?_)
    pointwise [refKV]
    rw [refK_at, refV_at]
  have hq : ∀ (f : Fin 256) (a : Fin 32), refQ X W (ix3 t ⟨f.val / 32, by omega⟩ a) = query (rows (by decide) X W t) (place t) (chan f a) := fun f a => by
    have := refQ_at X W t (place t) f a
    rw [mate_place] at this
    exact this
  pointwise [REF, refOut]
  simp only [hs, hkv, hq]
  rfl

end Cert.Window

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Window.Array
public import proofs.«01_k».proof.Proof.Window.Layout
public import proofs.«01_k».proof.Proof.Window.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and leaves every counter at zero (it has none). -/
theorem reference_frame : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) _⟩

/-- With tokens laid out window after window, the array the kernel leaves is the array the reference leaves. -/
theorem algebraic : Cert.algebraic_KernelIdeal_ReferenceIdeal_pre_windows_of_sixty_four (hKernelIdeal := Cert.KernelIdeal.Gen.facts)
    (hReferenceIdeal := Cert.ReferenceIdeal.Gen.facts) (hPre_windows_of_sixty_four := Cert.Window.layoutFacts) := by
  have : Cert.Pre_windows_of_sixty_four.Facts := Cert.Window.layoutFacts
  intro m g m' g' hpre hagree
  refine ⟨fun c => Cert.Window.G m c, ?_, ?_⟩
  · exact θ_run_mono (Cert.KernelIdeal.Value.run_blocks m g) fun r h c => ⟨(h c).1.trans (Cert.Window.final m c), (h c).2⟩
  · refine θ_run_mono (Cert.ReferenceIdeal.Value.run m' g') fun r h c => ⟨(h c).1.trans ?_, (h c).2⟩
    obtain ⟨h0, -, -, h3, h4, h5, h6⟩ := hagree c
    refine (Cert.Window.res_eq m' c).trans ?_
    rw [h0, h3, h4, h5, h6]
    funext i
    obtain ⟨t, n, rfl⟩ : ∃ (t : Fin 16384) (n : Fin 256), i = ix2 t n := ⟨i 0, i 1, eq_ix2 i⟩
    exact Cert.Window.REF_at _ _ (fun t => Cert.Window.layout _ _ _ _ _ _ _ (hpre c) t) _ _ _ t n

/-- Everything claimed. -/
theorem claim : Cert.Claim :=
  ⟨Cert.Kernel.Gen.facts, Cert.KernelIdeal.Gen.facts, Cert.ReferenceIdeal.Gen.facts, Cert.Window.layoutFacts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
